-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_all_finite : Cert.Pre_all_finite.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ preserves_Kernel_KernelIdeal
    ∧ algebraic_KernelIdeal_ReferenceIdeal_pre_all_finite (hKernelIdeal := hKernelIdeal) (hReferenceIdeal := hReferenceIdeal) (hPre_all_finite := hPre_all_finite)
-- ==== Pre_all_finite.lean ====
abbrev S32x576x64 : Shape := ⟨3, ![32, 576, 64]⟩
abbrev S1024x64 : Shape := ⟨2, ![1024, 64]⟩
abbrev S_ : Shape := ⟨0, ![]⟩

class Facts : Prop where
  bcast_S_S32x576x64 : S_.BroadcastsInDim S32x576x64 (![] : Fin 0 → Fin S32x576x64.rank)
  reducesTo_S32x576x64_S_d0_1_2 : S32x576x64.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn {F : FTy → Type} [FloatOps F] (main_arg0 : FVec F S32x576x64 .f32) (main_arg1 : FVec F S1024x64 .f32) : IVec S_ 1 :=
  let main_v0 : FVec F S32x576x64 .f32 := Host.absf main_arg0
  let main_cst : FVec F S_ .f32 := constant S_ .f32 0x7F800000#32
  let main_v1 : FVec F S32x576x64 .f32 := broadcastInDim S32x576x64 ![] bcast_S_S32x576x64 main_cst
  let main_v2 : IVec S32x576x64 1 := cmpf .olt main_v0 main_v1
  let main_c : IVec S_ 1 := constantI S_ 1 1#1
  let main_v3 : IVec S_ 1 := (fun x v => Host.reduce IntOp.andi x v reducesTo_S32x576x64_S_d0_1_2 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  main_v8
-- ==== Kernel.lean ====
abbrev S32x576x64 : Shape := ⟨3, ![32, 576, 64]⟩
abbrev S1024x64 : Shape := ⟨2, ![1024, 64]⟩
abbrev S32x576 : Shape := ⟨2, ![32, 576]⟩
abbrev S8x576x64 : Shape := ⟨3, ![8, 576, 64]⟩
abbrev S8x576 : Shape := ⟨2, ![8, 576]⟩
abbrev S4608x64 : Shape := ⟨2, ![4608, 64]⟩
abbrev S1x64 : Shape := ⟨2, ![1, 64]⟩
abbrev S1x4608 : Shape := ⟨2, ![1, 4608]⟩
abbrev S1024 : Shape := ⟨1, ![1024]⟩
abbrev S1024x1 : Shape := ⟨2, ![1024, 1]⟩
abbrev S256x64 : Shape := ⟨2, ![256, 64]⟩
abbrev S256x4608 : Shape := ⟨2, ![256, 4608]⟩
abbrev S256x1 : Shape := ⟨2, ![256, 1]⟩
abbrev S8x1 : Shape := ⟨2, ![8, 1]⟩
abbrev S8x4608 : Shape := ⟨2, ![8, 4608]⟩
abbrev S4608 : Shape := ⟨1, ![4608]⟩
abbrev S576 : Shape := ⟨1, ![576]⟩
abbrev S1x576 : Shape := ⟨2, ![1, 576]⟩

abbrev nBuf : Space → Nat
  | .hbm => 3
  | .vmem => 5
  | .smem => 0
  | _ => 0

abbrev bufTy : (tb : Table) → Fin (tcTables nBuf tb) → BufTy
  | .hbm, ⟨0, _⟩ => ⟨S32x576x64, .f32⟩
  | .hbm, ⟨1, _⟩ => ⟨S1024x64, .f32⟩
  | .hbm, ⟨2, _⟩ => ⟨S32x576, .i32⟩
  | .local _ .vmem, ⟨0, _⟩ => ⟨S8x576x64, .f32⟩
  | .local _ .vmem, ⟨1, _⟩ => ⟨S8x576x64, .f32⟩
  | .local _ .vmem, ⟨2, _⟩ => ⟨S1024x64, .f32⟩
  | .local _ .vmem, ⟨3, _⟩ => ⟨S8x576, .i32⟩
  | .local _ .vmem, ⟨4, _⟩ => ⟨S8x576, .i32⟩
  | _, _ => ⟨S32x576x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x576x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x576 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S32x576x64 : Shape := ⟨3, ![32, 576, 64]⟩
abbrev S1024x64 : Shape := ⟨2, ![1024, 64]⟩
abbrev S18432x64 : Shape := ⟨2, ![18432, 64]⟩
abbrev S_ : Shape := ⟨0, ![]⟩
abbrev S18432 : Shape := ⟨1, ![18432]⟩
abbrev S18432x1 : Shape := ⟨2, ![18432, 1]⟩
abbrev S1024 : Shape := ⟨1, ![1024]⟩
abbrev S1x1024 : Shape := ⟨2, ![1, 1024]⟩
abbrev S64x1024 : Shape := ⟨2, ![64, 1024]⟩
abbrev S18432x1024 : Shape := ⟨2, ![18432, 1024]⟩
abbrev S32x576 : Shape := ⟨2, ![32, 576]⟩

abbrev nBuf : Space → Nat
  | .hbm => 26
  | .vmem => 0
  | .smem => 0
  | _ => 0

abbrev bufTy : (tb : Table) → Fin (tcTables nBuf tb) → BufTy
  | .hbm, ⟨0, _⟩ => ⟨S32x576x64, .f32⟩
  | .hbm, ⟨1, _⟩ => ⟨S1024x64, .f32⟩
  | .hbm, ⟨2, _⟩ => ⟨S18432x64, .f32⟩
  | .hbm, ⟨3, _⟩ => ⟨S18432x64, .f32⟩
  | .hbm, ⟨4, _⟩ => ⟨S_, .f32⟩
  | .hbm, ⟨5, _⟩ => ⟨S18432, .f32⟩
  | .hbm, ⟨6, _⟩ => ⟨S18432x1, .f32⟩
  | .hbm, ⟨7, _⟩ => ⟨S1024x64, .f32⟩
  | .hbm, ⟨8, _⟩ => ⟨S_, .f32⟩
  | .hbm, ⟨9, _⟩ => ⟨S1024, .f32⟩
  | .hbm, ⟨10, _⟩ => ⟨S1x1024, .f32⟩
  | .hbm, ⟨11, _⟩ => ⟨S64x1024, .f32⟩
  | .hbm, ⟨12, _⟩ => ⟨S18432x1024, .f32⟩
  | .hbm, ⟨13, _⟩ => ⟨S18432x1024, .f32⟩
  | .hbm, ⟨14, _⟩ => ⟨S18432x1024, .f32⟩
  | .hbm, ⟨15, _⟩ => ⟨S18432x1024, .f32⟩
  | .hbm, ⟨16, _⟩ => ⟨S_, .f32⟩
  | .hbm, ⟨17, _⟩ => ⟨S18432x1024, .f32⟩
  | .hbm, ⟨18, _⟩ => ⟨S18432x1024, .f32⟩
  | .hbm, ⟨19, _⟩ => ⟨S18432x1024, .f32⟩
  | .hbm, ⟨20, _⟩ => ⟨S18432x1024, .i32⟩
  | .hbm, ⟨21, _⟩ => ⟨S_, .f32⟩
  | .hbm, ⟨22, _⟩ => ⟨S_, .i32⟩
  | .hbm, ⟨23, _⟩ => ⟨S18432, .f32⟩
  | .hbm, ⟨24, _⟩ => ⟨S18432, .i32⟩
  | .hbm, ⟨25, _⟩ => ⟨S32x576, .i32⟩
  | _, _ => ⟨S32x576x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_v0 : Ref sig .tc := ⟨.hbm, 20, rfl⟩
abbrev main_call0_cst : Ref sig .tc := ⟨.hbm, 21, rfl⟩
abbrev main_call0_c : Ref sig .tc := ⟨.hbm, 22, rfl⟩
abbrev main_call0_v1_0 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== Proof.RefRun.lean ====
/-
  The run of the reference: a straight line of array operations, the index of the least distance taken by a reduction of
  (distance, index) pairs. Every weakly fair execution ends, with the result array holding `out` of the two arguments and
  the arguments unchanged.
-/
module

public import proofs.«01_k».proof.Proof.Gen.ReferenceIdeal
public import Idealize.ShloMosaic.Lib.StableHlo.Run

@[expose] public section

noncomputable section

namespace Cert.ReferenceIdeal.RefRun

open Cert.ReferenceIdeal Cert.ReferenceIdeal.Gen
open Idealize.ShloMosaic Idealize.ShloMosaic.TcCoe Idealize.ShloMosaic.StableHlo Idealize.SL.Sem

variable {F : FTy → Type} [FloatOps F]

/-- The distances of all rows to all codebook rows. -/
def dists (x : FVec F S32x576x64 .f32) (c : FVec F S1024x64 .f32) : FVec F S18432x1024 .f32 :=
  subf
    (addf
      (broadcastInDim S18432x1024 ![0, 1] bcast_S18432x1_S18432x1024_0_1
        (broadcastInDim S18432x1 ![0] bcast_S18432_S18432x1_0
          (Host.reduceAdd (mulf (shapeCast S18432x64 x shapeCasts_S32x576x64_S18432x64) (shapeCast S18432x64 x shapeCasts_S32x576x64_S18432x64))
            (constant S_ .f32 0x00000000#32) reducesTo_S18432x64_S18432_d1 h_S_)))
      (broadcastInDim S18432x1024 ![0, 1] bcast_S1x1024_S18432x1024_0_1
        (broadcastInDim S1x1024 ![1] bcast_S1024_S1x1024_1
          (Host.reduceAdd (mulf c c) (constant S_ .f32 0x00000000#32) reducesTo_S1024x64_S1024_d1 h_S_))))
    (mulf (broadcastInDim S18432x1024 ![] bcast_S_S18432x1024 (constant S_ .f32 0x40000000#32))
      (Host.dotGeneral dot_S18432x64_S64x1024_S18432x1024_1_0_0_1_n_n none (shapeCast S18432x64 x shapeCasts_S32x576x64_S18432x64)
        (transpose S64x1024 [1, 0] c transposes_S1024x64_S64x1024_1_0)))

/-- The least value of each row, the first of the reduction's two results. -/
def leastOf (x : FVec F S18432x1024 .f32) (y : IVec S18432x1024 32) (u : FVec F S_ .f32) (v : IVec S_ 32) : FVec F S18432 .f32 :=
  fun j => (Host.argReduce reducer_argmin_f32_i32 x y u v reducesTo_S18432x1024_S18432_d1 h_S_ j).1

/-- The index carried with it, the second of the reduction's two results. -/
def indexOf (x : FVec F S18432x1024 .f32) (y : IVec S18432x1024 32) (u : FVec F S_ .f32) (v : IVec S_ 32) : IVec S18432 32 :=
  fun j => (Host.argReduce reducer_argmin_f32_i32 x y u v reducesTo_S18432x1024_S18432_d1 h_S_ j).2

/-- The index of the least distance, row by row. -/
def nearest (d : FVec F S18432x1024 .f32) : IVec S18432 32 :=
  indexOf d (iotaInDim S18432x1024 32 1) (constant S_ .f32 0x7F800000#32) (constantI S_ 32 0#32)

/-- What the reference computes. -/
def out (x : FVec F S32x576x64 .f32) (c : FVec F S1024x64 .f32) : IVec S32x576 32 :=
  shapeCast S32x576 (nearest (dists x c)) shapeCasts_S18432_S32x576

/-- The operations up to the distances, in order. -/
abbrev opsA : List (HloOp τ sig (Elt F)) :=
  [ reshape main_arg0 main_v0 rfl shapeCasts_S32x576x64_S18432x64,
    binary main_v0 main_v0 main_v1 mulf,
    nullary main_cst (constant S_ .f32 0x00000000#32),
    binary main_v1 main_cst main_v2 (fun x v => Host.reduceAdd x v reducesTo_S18432x64_S18432_d1 h_S_),
    unary main_v2 main_v3 (broadcastInDim S18432x1 ![0] bcast_S18432_S18432x1_0),
    binary main_arg1 main_arg1 main_v4 mulf,
    nullary main_cst_0 (constant S_ .f32 0x00000000#32),
    binary main_v4 main_cst_0 main_v5 (fun x v => Host.reduceAdd x v reducesTo_S1024x64_S1024_d1 h_S_),
    unary main_v5 main_v6 (broadcastInDim S1x1024 ![1] bcast_S1024_S1x1024_1),
    unary main_arg1 main_v7 (transpose S64x1024 [1, 0] · transposes_S1024x64_S64x1024_1_0),
    binary main_v0 main_v7 main_v8 (fun l r => Host.dotGeneral dot_S18432x64_S64x1024_S18432x1024_1_0_0_1_n_n none l r),
    unary main_v3 main_v9 (broadcastInDim S18432x1024 ![0, 1] bcast_S18432x1_S18432x1024_0_1),
    unary main_v6 main_v10 (broadcastInDim S18432x1024 ![0, 1] bcast_S1x1024_S18432x1024_0_1),
    binary main_v9 main_v10 main_v11 addf,
    nullary main_cst_1 (constant S_ .f32 0x40000000#32),
    unary main_cst_1 main_v12 (broadcastInDim S18432x1024 ![] bcast_S_S18432x1024),
    binary main_v12 main_v8 main_v13 mulf,
    binary main_v11 main_v13 main_v14 subf ]

/-- The operations after the distances, over any two functions in the places of the reduction's two results. -/
abbrev opsB (f : FVec F S18432x1024 .f32 → IVec S18432x1024 32 → FVec F S_ .f32 → IVec S_ 32 → FVec F S18432 .f32)
    (g : FVec F S18432x1024 .f32 → IVec S18432x1024 32 → FVec F S_ .f32 → IVec S_ 32 → IVec S18432 32) :
    List (HloOp τ sig (Elt F)) :=
  [ nullary main_call0_v0 (iotaInDim S18432x1024 32 1),
    nullary main_call0_cst (constant S_ .f32 0x7F800000#32),
    nullary main_call0_c (constantI S_ 32 0#32),
    quaternary main_v14 main_call0_v0 main_call0_cst main_call0_c main_call0_v1_0 f,
    quaternary main_v14 main_call0_v0 main_call0_cst main_call0_c main_v15 g,
    reshape main_v15 main_v16 rfl shapeCasts_S18432_S32x576 ]

/-- All the operations. -/
abbrev ops : List (HloOp τ sig (Elt F)) :=
  opsA ++ opsB leastOf indexOf

/-- The program is that straight line. -/
theorem main_eq (c : Dev nD) : main (F := F) c = seq ops := by
  simp only [main, fn_argmin.body, seq, bind_assoc, pure_bind]
  rfl

/-- Operations run in two parts. -/
theorem after_two (l k : List (HloOp τ sig (Elt F))) (V : Valuation τ sig (Elt F)) :
    after (l ++ k) V = after k (after l V) := by
  induction l generalizing V with
  | nil => rfl
  | cons o l ih => simp only [List.cons_append, after_cons, ih]

/-- The distances after the first part. -/
theorem opsA_dists (V : Valuation τ sig (Elt F)) :
    after opsA V (main_v14 : DevRef τ sig) = dists (V (main_arg0 : DevRef τ sig)) (V (main_arg1 : DevRef τ sig)) := by
  after_results_simp
  rfl

/-- The second part's result, from the distances. -/
theorem opsB_result (f : FVec F S18432x1024 .f32 → IVec S18432x1024 32 → FVec F S_ .f32 → IVec S_ 32 → FVec F S18432 .f32)
    (g : FVec F S18432x1024 .f32 → IVec S18432x1024 32 → FVec F S_ .f32 → IVec S_ 32 → IVec S18432 32)
    (W : Valuation τ sig (Elt F)) :
    after (opsB f g) W (main_v16 : DevRef τ sig)
      = shapeCast S32x576 (g (W (main_v14 : DevRef τ sig)) (iotaInDim S18432x1024 32 1) (constant S_ .f32 0x7F800000#32)
          (constantI S_ 32 0#32)) shapeCasts_S18432_S32x576 := by
  after_results_simp
  rfl

/-- The operations' fold at the result array. -/
theorem out_eq (V : Valuation τ sig (Elt F)) :
    after ops V (main_v16 : DevRef τ sig) = out (V (main_arg0 : DevRef τ sig)) (V (main_arg1 : DevRef τ sig)) := by
  rw [after_two, opsB_result, opsA_dists, out, nearest]

/-- No operation writes an argument. -/
theorem arg0_eq (V : Valuation τ sig (Elt F)) :
    after ops V (main_arg0 : DevRef τ sig) = V (main_arg0 : DevRef τ sig) := by
  rw [after_two]
  simp only [after_cons, after_nil]
  rfl

theorem arg1_eq (V : Valuation τ sig (Elt F)) :
    after ops V (main_arg1 : DevRef τ sig) = V (main_arg1 : DevRef τ sig) := by
  rw [after_two]
  simp only [after_cons, after_nil]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches the program's own arrays only. -/
theorem ops_sub : (ops : List (HloOp τ sig (Elt F))).Forall fun op => op.bufs ⊆ tcRefs τ sig :=
  ⟨reshape_bufs_sub .., binary_bufs_sub .., nullary_bufs_sub .., binary_bufs_sub .., unary_bufs_sub .., binary_bufs_sub ..,
    nullary_bufs_sub .., binary_bufs_sub .., unary_bufs_sub .., unary_bufs_sub .., binary_bufs_sub .., unary_bufs_sub ..,
    unary_bufs_sub .., binary_bufs_sub .., nullary_bufs_sub .., unary_bufs_sub .., binary_bufs_sub .., binary_bufs_sub ..,
    nullary_bufs_sub .., nullary_bufs_sub .., nullary_bufs_sub .., quaternary_bufs_sub .., quaternary_bufs_sub ..,
    reshape_bufs_sub ..⟩

/-- From any memory with zero counters every weakly fair execution ends, with the result array at `out` of the arguments
    and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v16) = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v16).trans (out_eq _), (h c main_arg0).trans (arg0_eq _),
      (h c main_arg1).trans (arg1_eq _)⟩)
    (run_seq scopedRefs_eq scopedSems_eq defs main (fun _ => ops) main_eq (fun _ => ops_sub) m ρ)

end Cert.ReferenceIdeal.RefRun

end
-- ==== Proof.Walk.lean ====
/-
  The kernel's running minimum, as a recursion. The codebook's 1024 rows are cut into 4 chunks of 256 rows, a chunk into
  32 groups of 8 rows. `tileAt` is the distances of one group to all 4608 rows of the block; `walkV` and `walkX` run over
  consecutive groups of one chunk and keep, position by position, the least distance and the number of the group it came
  from. `payV` and `payX` say that the kernel's own chain of 127 steps is these recursions, chunk after chunk.
-/
module

public import proofs.«01_k».proof.Proof.Gen.KernelIdeal.Frame

@[expose] public section

set_option maxRecDepth 16384

noncomputable section

namespace Cert.KernelIdeal.Walk

open Cert.KernelIdeal Cert.KernelIdeal.Gen Idealize.ShloMosaic

variable {F : FTy → Type} [FloatOps F]

/-- Eight rows of the chunk's column of codebook norms lie in it. -/
theorem slice_col {o : Nat} (h : o + 8 ≤ 256) : S256x1.Slices ![o, 0] S8x1 :=
  ⟨rfl, fun a => match a with
    | ⟨0, _⟩ => h
    | ⟨1, _⟩ => Nat.le_refl 1⟩

/-- Eight rows of the chunk's products lie in it. -/
theorem slice_rows {o : Nat} (h : o + 8 ≤ 256) : S256x4608.Slices ![o, 0] S8x4608 :=
  ⟨rfl, fun a => match a with
    | ⟨0, _⟩ => h
    | ⟨1, _⟩ => Nat.le_refl 4608⟩

/-- The distances of group `r` of a chunk: the codebook rows' norms plus the block rows' norms plus the products. -/
def tileAt (a2 : FVec F S1x4608 .f32) (ab : FVec F S256x4608 .f32) (b2 : FVec F S256x1 .f32) (r : Nat) (h : r < 32) :
    FVec F S8x4608 .f32 :=
  addf (addf (broadcastTo S8x4608 (extractStridedSlice S8x1 ![8 * r, 0] b2 (slice_col (by omega))) broadcasts_S8x1_S8x4608)
      (broadcastTo S8x4608 a2 broadcasts_S1x4608_S8x4608))
    (extractStridedSlice S8x4608 ![8 * r, 0] ab (slice_rows (by omega)))

/-- The running minimum after `n` groups, the first of them group `s`. -/
def walkV (a2 : FVec F S1x4608 .f32) (ab : FVec F S256x4608 .f32) (b2 : FVec F S256x1 .f32) (s : Nat) (v : FVec F S8x4608 .f32) :
    (n : Nat) → s + n ≤ 32 → FVec F S8x4608 .f32
  | 0, _ => v
  | n + 1, h => minimumf (tileAt a2 ab b2 (s + n) (by omega)) (walkV a2 ab b2 s v n (by omega))

/-- The group the running minimum came from; the chunk's first group has number `base`. -/
def walkX (a2 : FVec F S1x4608 .f32) (ab : FVec F S256x4608 .f32) (b2 : FVec F S256x1 .f32) (base s : Nat)
    (v : FVec F S8x4608 .f32) (x : IVec S8x4608 32) : (n : Nat) → s + n ≤ 32 → IVec S8x4608 32
  | 0, _ => x
  | n + 1, h => select (cmpf .olt (tileAt a2 ab b2 (s + n) (by omega)) (walkV a2 ab b2 s v n (by omega)))
      (broadcast S8x4608 (BitVec.ofNat 32 (base + (s + n)))) (walkX a2 ab b2 base s v x n (by omega))

variable (x0 : Vec F S8x576x64 .f32) (x1 : Vec F S1024x64 .f32)

/-- The least distances after chunk 0, whose group 0 starts the run, -/
def v0 : FVec F S8x4608 .f32 :=
  walkV (k0_pay330 x0 x1) (k0_pay332 x0 x1) (k0_pay333 x0 x1) 1
    (tileAt (k0_pay330 x0 x1) (k0_pay332 x0 x1) (k0_pay333 x0 x1) 0 (by decide)) 31 (by decide)

/-- after chunk 1, -/
def v1 : FVec F S8x4608 .f32 :=
  walkV (k0_pay330 x0 x1) (k0_pay345 x0 x1) (k0_pay346 x0 x1) 0 (v0 x0 x1) 32 (by decide)

/-- after chunk 2, -/
def v2 : FVec F S8x4608 .f32 :=
  walkV (k0_pay330 x0 x1) (k0_pay358 x0 x1) (k0_pay359 x0 x1) 0 (v1 x0 x1) 32 (by decide)

/-- and after chunk 3. -/
def v3 : FVec F S8x4608 .f32 :=
  walkV (k0_pay330 x0 x1) (k0_pay372 x0 x1) (k0_pay373 x0 x1) 0 (v2 x0 x1) 32 (by decide)

/-- The groups the least distances came from, after chunk 0, -/
def g0 : IVec S8x4608 32 :=
  walkX (k0_pay330 x0 x1) (k0_pay332 x0 x1) (k0_pay333 x0 x1) 0 1
    (tileAt (k0_pay330 x0 x1) (k0_pay332 x0 x1) (k0_pay333 x0 x1) 0 (by decide)) (broadcast S8x4608 0#32) 31 (by decide)

/-- after chunk 1, -/
def g1 : IVec S8x4608 32 :=
  walkX (k0_pay330 x0 x1) (k0_pay345 x0 x1) (k0_pay346 x0 x1) 32 0 (v0 x0 x1) (g0 x0 x1) 32 (by decide)

/-- after chunk 2, -/
def g2 : IVec S8x4608 32 :=
  walkX (k0_pay330 x0 x1) (k0_pay358 x0 x1) (k0_pay359 x0 x1) 64 0 (v1 x0 x1) (g1 x0 x1) 32 (by decide)

/-- and after chunk 3. -/
def g3 : IVec S8x4608 32 :=
  walkX (k0_pay330 x0 x1) (k0_pay372 x0 x1) (k0_pay373 x0 x1) 96 0 (v2 x0 x1) (g2 x0 x1) 32 (by decide)

/-- The kernel's last running minimum is the recursion's, -/
theorem payV : k0_pay385 x0 x1 = v3 x0 x1 := rfl

/-- and so is its last running group number. -/
theorem payX : select (k0_pay384 x0 x1) (broadcast S8x4608 127#32) (k0_pay383 x0 x1) = g3 x0 x1 := rfl

end Cert.KernelIdeal.Walk

end
-- ==== Proof.Dist.lean ====
/-
  The distance of a row to a codebook row, in the two forms: with the product doubled and subtracted, and with the row
  multiplied by minus two first and the product added. On rows of real numbers the two are equal.
-/
module

public import Idealize.ShloMosaic.Lib.Pointwise

@[expose] public section

open scoped BigOperators

namespace Cert.Dist

/-- An extended real that is neither infinity is a real number. -/
theorem exists_real {n : Nat} {v : Fin n → EReal} (h : ∀ k, v k ≠ ⊥ ∧ v k ≠ ⊤) : ∃ r : Fin n → ℝ, v = fun k => (r k : EReal) :=
  ⟨fun k => (v k).toReal, funext fun k => (EReal.coe_toReal (h k).2 (h k).1).symm⟩

/-- A sum of real numbers is the same sum in the extended reals. -/
theorem coe_sum {n : Nat} (r : Fin n → ℝ) : (∑ k, (r k : EReal)) = ((∑ k, r k : ℝ) : EReal) := by
  induction n with
  | zero => simp
  | succ n ih => rw [Fin.sum_univ_succ, Fin.sum_univ_succ, ih, EReal.coe_add]

/-- The distance as the plain formula has it. -/
noncomputable def dist {n : Nat} (r c : Fin n → EReal) : EReal :=
  (∑ k, r k * r k) + (∑ k, c k * c k) - (2 : ℝ) * ∑ k, r k * c k

/-- The distance with the row scaled first. -/
noncomputable def dist' {n : Nat} (r c : Fin n → EReal) : EReal :=
  (∑ k, c k * c k) + (∑ k, r k * r k) + ∑ k, c k * (r k * (-2 : ℝ))

/-- On real rows they are equal. -/
theorem dist'_eq {n : Nat} {r c : Fin n → EReal} (hr : ∀ k, r k ≠ ⊥ ∧ r k ≠ ⊤) (hc : ∀ k, c k ≠ ⊥ ∧ c k ≠ ⊤) :
    dist' r c = dist r c := by
  obtain ⟨x, rfl⟩ := exists_real hr
  obtain ⟨y, rfl⟩ := exists_real hc
  have e : (∑ k, y k * (x k * (-2))) = - (2 * ∑ k, x k * y k) := by
    rw [Finset.mul_sum, ← Finset.sum_neg_distrib]
    exact Finset.sum_congr rfl fun k _ => by ring
  simp only [dist, dist', ← EReal.coe_mul, coe_sum, ← EReal.coe_add, ← EReal.coe_sub]
  rw [e]
  congr 1
  ring

end Cert.Dist
-- ==== Proof.Block.lean ====
/-
  One block of the kernel, read entry by entry: the codebook norms, the rows' norms and the products of each chunk, and so
  the distances of each group of eight codebook rows. `D x0 x1 q k` is the distance of row `q` of the block to codebook row
  `k`, in the kernel's form.
-/
module

public import proofs.«01_k».proof.Proof.Walk
public import proofs.«01_k».proof.Proof.Dist
public import Idealize.ShloMosaic.Lib.Pointwise
public import Idealize.ShloMosaic.Lib.IdealHost

@[expose] public section

set_option maxRecDepth 16384

noncomputable section

namespace Cert.KernelIdeal.Walk

open Cert.KernelIdeal Cert.KernelIdeal.Gen Idealize.ShloMosaic Cert.Dist

/-- Row `q` of the block, its 8 × 576 rows numbered through. -/
def row (x0 : Vec Ideal S8x576x64 .f32) (q : Fin 4608) : Fin 64 → EReal := fun x =>
  x0 (ix3 ⟨q.val / 576, by omega⟩ ⟨q.val % 576, by omega⟩ x)

/-- Codebook row `k`, for `k` below 1024. -/
def code (x1 : Vec Ideal S1024x64 .f32) (k : Nat) : Fin 64 → EReal := fun x =>
  x1 (ix2 ⟨k % 1024, Nat.mod_lt _ (by decide)⟩ x)

/-- The distance of row `q` to codebook row `k`. -/
def D (x0 : Vec Ideal S8x576x64 .f32) (x1 : Vec Ideal S1024x64 .f32) (q : Fin 4608) (k : Nat) : EReal :=
  dist' (row x0 q) (code x1 k)

/-- The constant the kernel scales the rows by. -/
theorem minus_two : Ideal.ofBits .f32 3221225472#32 = ((-2 : ℝ) : EReal) := by
  simp [Ideal.ofBits, Ideal.ieee, -EReal.coe_mul, -EReal.coe_neg]; norm_num

theorem code_eq (x1 : Vec Ideal S1024x64 .f32) {k : Nat} (h : k < 1024) (j : Nat) (e : k = j) :
    (fun x => x1 (ix2 ⟨k, h⟩ x)) = code x1 j := by
  subst e
  funext x
  simp only [code, Nat.mod_eq_of_lt h]

/-- A whole load is the array. -/
theorem ld0 (x0 : Vec Ideal S8x576x64 .f32) : View.ld x0 r0_0 = x0 :=
  View.ld_unit_zero (by decide : (![0, 0, 0] : Fin 3 → Nat) = fun _ => 0) _ x0
theorem ld1 (x1 : Vec Ideal S1024x64 .f32) : View.ld x1 r0_1 = x1 :=
  View.ld_unit_zero (by decide : (![0, 0] : Fin 2 → Nat) = fun _ => 0) _ x1

/-- A group of a chunk, entry by entry. -/
theorem tileAt_apply (a2 : FVec Ideal S1x4608 .f32) (ab : FVec Ideal S256x4608 .f32) (b2 : FVec Ideal S256x1 .f32) (r : Nat)
    (h : r < 32) (s : Fin 8) (q : Fin 4608) :
    tileAt a2 ab b2 r h (ix2 s q)
      = b2 (ix2 ⟨8 * r + s.val, by omega⟩ 0) + a2 (ix2 0 q) + ab (ix2 ⟨8 * r + s.val, by omega⟩ q) := by
  pointwise [tileAt]

variable (x0 : Vec Ideal S8x576x64 .f32) (x1 : Vec Ideal S1024x64 .f32)

/-- The rows' norms. -/
theorem norms_apply (q : Fin 4608) : k0_pay330 x0 x1 (ix2 0 q) = ∑ x, row x0 q x * row x0 q x := by
  rw [k0_pay330, ld0]
  pointwise [k0_pay5, k0_pay3, row]

/-- The codebook rows' norms. -/
theorem codes_apply (k : Fin 1024) : k0_pay331 x0 x1 (ix2 k 0) = ∑ x, code x1 k x * code x1 k x := by
  rw [k0_pay331, ld1, ← code_eq x1 k.isLt k rfl]
  pointwise [k0_pay6]

/-- The products of chunk 0, -/
theorem prod0_apply (p : Fin 256) (q : Fin 4608) :
    k0_pay332 x0 x1 (ix2 p q) = ∑ x, code x1 p x * (row x0 q x * (-2 : ℝ)) := by
  rw [k0_pay332, ld0, ld1, ← code_eq x1 (k := p.val) (by omega) p rfl]
  pointwise [k0_pay7, k0_pay4, k0_pay3, row, minus_two]

/-- of chunk 1, -/
theorem prod1_apply (p : Fin 256) (q : Fin 4608) :
    k0_pay345 x0 x1 (ix2 p q) = ∑ x, code x1 (256 + p.val) x * (row x0 q x * (-2 : ℝ)) := by
  rw [k0_pay345, k0_pay329, ld0, ld1, ← code_eq x1 (k := 256 + p.val) (by omega) _ rfl]
  pointwise [k0_pay87, k0_pay4, k0_pay3, row, minus_two]

/-- of chunk 2, -/
theorem prod2_apply (p : Fin 256) (q : Fin 4608) :
    k0_pay358 x0 x1 (ix2 p q) = ∑ x, code x1 (512 + p.val) x * (row x0 q x * (-2 : ℝ)) := by
  rw [k0_pay358, k0_pay329, ld0, ld1, ← code_eq x1 (k := 512 + p.val) (by omega) _ rfl]
  pointwise [k0_pay166, k0_pay4, k0_pay3, row, minus_two]

/-- and of chunk 3. -/
theorem prod3_apply (p : Fin 256) (q : Fin 4608) :
    k0_pay372 x0 x1 (ix2 p q) = ∑ x, code x1 (768 + p.val) x * (row x0 q x * (-2 : ℝ)) := by
  rw [k0_pay372, k0_pay329, ld0, ld1, ← code_eq x1 (k := 768 + p.val) (by omega) _ rfl]
  pointwise [k0_pay243, k0_pay4, k0_pay3, row, minus_two]

/-- The norms of chunk 0's codebook rows, -/
theorem col0_apply (p : Fin 256) : k0_pay333 x0 x1 (ix2 p 0) = ∑ x, code x1 p x * code x1 p x := by
  rw [k0_pay333, ld1, ← code_eq x1 (k := p.val) (by omega) p rfl]
  pointwise [k0_pay8, k0_pay6]

/-- of chunk 1's, -/
theorem col1_apply (p : Fin 256) : k0_pay346 x0 x1 (ix2 p 0) = ∑ x, code x1 (256 + p.val) x * code x1 (256 + p.val) x := by
  rw [← codes_apply x0 x1 ⟨256 + p.val, by omega⟩, k0_pay346]
  pointwise [k0_pay88]

/-- of chunk 2's, -/
theorem col2_apply (p : Fin 256) : k0_pay359 x0 x1 (ix2 p 0) = ∑ x, code x1 (512 + p.val) x * code x1 (512 + p.val) x := by
  rw [← codes_apply x0 x1 ⟨512 + p.val, by omega⟩, k0_pay359]
  pointwise [k0_pay167]

/-- and of chunk 3's. -/
theorem col3_apply (p : Fin 256) : k0_pay373 x0 x1 (ix2 p 0) = ∑ x, code x1 (768 + p.val) x * code x1 (768 + p.val) x := by
  rw [← codes_apply x0 x1 ⟨768 + p.val, by omega⟩, k0_pay373]
  pointwise [k0_pay244]

/-- The distances of a group of chunk 0, -/
theorem tile0_apply (r : Nat) (h : r < 32) (s : Fin 8) (q : Fin 4608) :
    tileAt (k0_pay330 x0 x1) (k0_pay332 x0 x1) (k0_pay333 x0 x1) r h (ix2 s q) = D x0 x1 q (8 * (0 + r) + s.val) := by
  rw [tileAt_apply, norms_apply, prod0_apply, col0_apply, D, dist', show 8 * (0 + r) + s.val = 8 * r + s.val by omega]

/-- of chunk 1, -/
theorem tile1_apply (r : Nat) (h : r < 32) (s : Fin 8) (q : Fin 4608) :
    tileAt (k0_pay330 x0 x1) (k0_pay345 x0 x1) (k0_pay346 x0 x1) r h (ix2 s q) = D x0 x1 q (8 * (32 + r) + s.val) := by
  rw [tileAt_apply, norms_apply, prod1_apply, col1_apply, D, dist', show 8 * (32 + r) + s.val = 256 + (8 * r + s.val) by omega]

/-- of chunk 2, -/
theorem tile2_apply (r : Nat) (h : r < 32) (s : Fin 8) (q : Fin 4608) :
    tileAt (k0_pay330 x0 x1) (k0_pay358 x0 x1) (k0_pay359 x0 x1) r h (ix2 s q) = D x0 x1 q (8 * (64 + r) + s.val) := by
  rw [tileAt_apply, norms_apply, prod2_apply, col2_apply, D, dist', show 8 * (64 + r) + s.val = 512 + (8 * r + s.val) by omega]

/-- and of chunk 3. -/
theorem tile3_apply (r : Nat) (h : r < 32) (s : Fin 8) (q : Fin 4608) :
    tileAt (k0_pay330 x0 x1) (k0_pay372 x0 x1) (k0_pay373 x0 x1) r h (ix2 s q) = D x0 x1 q (8 * (96 + r) + s.val) := by
  rw [tileAt_apply, norms_apply, prod3_apply, col3_apply, D, dist', show 8 * (96 + r) + s.val = 768 + (8 * r + s.val) by omega]

end Cert.KernelIdeal.Walk

end
-- ==== Proof.FirstMin.lean ====
/-
  The first position of a least value, and three ways to reach it: a running minimum with the position it came from, eight
  running minima put together, and a fold that keeps the smaller of two (value, position) pairs. Mathematics only.
-/
module

public import Mathlib.Data.EReal.Basic

@[expose] public section

namespace Cert.FirstMin

/-- `p` is the first of the positions below `n` where `d` is least. -/
structure IsFirstMin (n : Nat) (d : Nat → EReal) (p : Nat) : Prop where
  lt : p < n
  le : ∀ k, k < n → d p ≤ d k
  first : ∀ k, k < p → d p < d k

/-- There is at most one first least position. -/
theorem IsFirstMin.unique {n : Nat} {d : Nat → EReal} {p q : Nat} (hp : IsFirstMin n d p) (hq : IsFirstMin n d q) : p = q := by
  rcases lt_trichotomy p q with h | h | h
  · exact absurd (hq.first p h) (not_lt.2 (hp.le q hq.lt))
  · exact h
  · exact absurd (hp.first q h) (not_lt.2 (hq.le p hp.lt))

/-- It depends on the values below `n` only. -/
theorem IsFirstMin.congr {n : Nat} {d e : Nat → EReal} {p : Nat} (hp : IsFirstMin n d p) (h : ∀ k, k < n → d k = e k) :
    IsFirstMin n e p where
  lt := hp.lt
  le := fun k hk => by rw [← h p hp.lt, ← h k hk]; exact hp.le k hk
  first := fun k hk => by rw [← h p hp.lt, ← h k (hk.trans hp.lt)]; exact hp.first k hk

/-! ## A running minimum -/

/-- The least of the values at 0 … n. -/
noncomputable def runV (d : Nat → EReal) : Nat → EReal
  | 0 => d 0
  | n + 1 => min (d (n + 1)) (runV d n)

open Classical in
/-- The position it came from: a new value takes over only if it is strictly less. -/
noncomputable def runX (d : Nat → EReal) : Nat → Nat
  | 0 => 0
  | n + 1 => if d (n + 1) < runV d n then n + 1 else runX d n

/-- The running position is the first least position, and the running minimum is the value there. -/
theorem run_spec (d : Nat → EReal) (n : Nat) : runV d n = d (runX d n) ∧ IsFirstMin (n + 1) d (runX d n) := by
  induction n with
  | zero =>
    refine ⟨rfl, Nat.zero_lt_one, fun k hk => ?_, fun k hk => absurd hk (Nat.not_lt_zero k)⟩
    obtain rfl : k = 0 := by omega
    exact le_refl _
  | succ n ih =>
    obtain ⟨hv, hm⟩ := ih
    by_cases h : d (n + 1) < runV d n
    · have hx : runX d (n + 1) = n + 1 := by simp only [runX, if_pos h]
      have hr : runV d (n + 1) = d (n + 1) := by simp only [runV]; exact min_eq_left h.le
      rw [hx, hr]
      have below : ∀ k, k < n + 1 → d (n + 1) < d k := fun k hk => lt_of_lt_of_le (hv ▸ h) (hm.le k hk)
      refine ⟨rfl, Nat.lt_succ_self _, fun k hk => ?_, below⟩
      rcases Nat.lt_succ_iff_lt_or_eq.1 hk with h' | rfl
      · exact (below k h').le
      · exact le_refl _
    · have hx : runX d (n + 1) = runX d n := by simp only [runX, if_neg h]
      have hr : runV d (n + 1) = runV d n := by simp only [runV]; exact min_eq_right (not_lt.1 h)
      rw [hx, hr]
      refine ⟨hv, hm.lt.trans (Nat.lt_succ_self _), fun k hk => ?_, hm.first⟩
      rcases Nat.lt_succ_iff_lt_or_eq.1 hk with h' | rfl
      · exact hm.le k h'
      · exact hv ▸ not_lt.1 h

/-! ## Eight running minima put together -/

open Classical in
/-- What lane `s` of eight offers: its first least position, as a position among all, if its least value is the overall
    least `v`; `big` otherwise. -/
noncomputable def offer (d : Nat → EReal) (n big : Nat) (v : EReal) (s : Nat) : Nat :=
  if runV (fun g => d (8 * g + s)) n = v then runX (fun g => d (8 * g + s)) n * 8 + s else big

/-- The least offer of the eight lanes is the first least position among all `8 * (n + 1)` values. -/
theorem offers_spec (d : Nat → EReal) (n : Nat) (v : EReal) (p : Nat)
    (hv : ∀ s, s < 8 → v ≤ runV (fun g => d (8 * g + s)) n) (hv' : ∃ s, s < 8 ∧ runV (fun g => d (8 * g + s)) n = v)
    (hp : ∀ s, s < 8 → p ≤ offer d n (8 * (n + 1)) v s) (hp' : ∃ s, s < 8 ∧ p = offer d n (8 * (n + 1)) v s) :
    IsFirstMin (8 * (n + 1)) d p := by
  -- an offer of a lane that holds the least value is below `big` and has the least value
  have good : ∀ s, s < 8 → runV (fun g => d (8 * g + s)) n = v →
      offer d n (8 * (n + 1)) v s < 8 * (n + 1) ∧ d (offer d n (8 * (n + 1)) v s) = v := fun s hs h => by
    obtain ⟨e, m⟩ := run_spec (fun g => d (8 * g + s)) n
    have hl := m.lt
    simp only [offer, if_pos h]
    refine ⟨by omega, ?_⟩
    rw [← h, e, Nat.mul_comm]
  have hpv : p < 8 * (n + 1) ∧ d p = v := by
    obtain ⟨s₀, h₀, e₀⟩ := hv'
    have l₀ := (good s₀ h₀ e₀).1
    obtain ⟨s, hs, rfl⟩ := hp'
    by_cases h : runV (fun g => d (8 * g + s)) n = v
    · exact good s hs h
    · have := hp s₀ h₀
      simp only [offer, if_neg h] at this
      simp only [offer] at l₀
      omega
  have lane : ∀ k, 8 * (k / 8) + k % 8 = k := fun k => Nat.div_add_mod k 8
  have low : ∀ k, k < 8 * (n + 1) → v ≤ d k := fun k hk => by
    obtain ⟨e, m⟩ := run_spec (fun g => d (8 * g + k % 8)) n
    have h1 := m.le (k / 8) (by omega)
    simp only [lane] at h1
    exact (hv _ (Nat.mod_lt _ (by decide))).trans (e ▸ h1)
  refine ⟨hpv.1, fun k hk => hpv.2 ▸ low k hk, fun k hk => ?_⟩
  have hk' : k < 8 * (n + 1) := hk.trans hpv.1
  rw [hpv.2]
  refine lt_of_le_of_ne (low k hk') fun e => ?_
  -- the lane of `k` would hold the least value, and offer a position not after `k`
  have hs : k % 8 < 8 := Nat.mod_lt _ (by decide)
  obtain ⟨er, m⟩ := run_spec (fun g => d (8 * g + k % 8)) n
  have h1 := m.le (k / 8) (by omega)
  simp only [lane] at h1
  have hr : runV (fun g => d (8 * g + k % 8)) n = v := le_antisymm (e ▸ (er ▸ h1)) (hv _ hs)
  have hle : runX (fun g => d (8 * g + k % 8)) n ≤ k / 8 := by
    by_contra hc
    have h2 := m.first (k / 8) (not_le.1 hc)
    simp only [lane] at h2
    rw [← er, hr, ← e] at h2
    exact lt_irrefl _ h2
  have := hp _ hs
  simp only [offer, if_pos hr] at this
  have := lane k
  omega

/-! ## A fold that keeps the smaller pair -/

/-- A pair comes before another: its value is less, or the values are equal and its position is not after. -/
def Before (a b : EReal × Int) : Prop := a.1 < b.1 ∨ (a.1 = b.1 ∧ a.2 ≤ b.2)

theorem Before.refl (a : EReal × Int) : Before a a := .inr ⟨rfl, le_refl _⟩

theorem Before.trans {a b c : EReal × Int} (h : Before a b) (h' : Before b c) : Before a c := by
  rcases h with h | ⟨h, i⟩ <;> rcases h' with h' | ⟨h', i'⟩
  · exact .inl (h.trans h')
  · exact .inl (h' ▸ h)
  · exact .inl (h ▸ h')
  · exact .inr ⟨h.trans h', i.trans i'⟩

/-- A fold whose step returns one of its two pairs, and one that comes before both, returns a pair of the list or the
    initial one, and one that comes before all of them. -/
theorem foldl_before {α : Type} (w : α → EReal × Int) (f : α → α → α)
    (hf : ∀ a b, (f a b = a ∨ f a b = b) ∧ Before (w (f a b)) (w a) ∧ Before (w (f a b)) (w b)) :
    ∀ (l : List α) (a : α), (l.foldl f a = a ∨ l.foldl f a ∈ l) ∧ Before (w (l.foldl f a)) (w a) ∧
      ∀ b ∈ l, Before (w (l.foldl f a)) (w b)
  | [], a => ⟨.inl rfl, Before.refl _, fun _ h => nomatch h⟩
  | b :: l, a => by
    obtain ⟨h1, h2, h3⟩ := foldl_before w f hf l (f a b)
    obtain ⟨g1, g2, g3⟩ := hf a b
    refine ⟨?_, h2.trans g2, fun c hc => ?_⟩
    · rcases h1 with h | h
      · rcases g1 with g | g
        · exact .inl (h.trans g)
        · exact .inr (by rw [List.foldl_cons, h, g]; exact List.mem_cons_self ..)
      · exact .inr (List.mem_cons_of_mem _ h)
    · rcases List.mem_cons.1 hc with rfl | hc
      · exact h2.trans g3
      · exact h3 c hc

/-- A pair that is the pair of some position below `n`, or the top value at position 0, and comes before the pair of every
    position below `n`, has the first least position. -/
theorem before_spec (n : Nat) (hn : 0 < n) (d : Nat → EReal) (v : EReal) (p : Nat)
    (h : (v = ⊤ ∧ p = 0) ∨ (p < n ∧ v = d p)) (hb : ∀ k, k < n → Before (v, (p : Int)) (d k, (k : Int))) :
    IsFirstMin n d p := by
  have hp : p < n ∧ v = d p := by
    rcases h with ⟨rfl, rfl⟩ | h
    · refine ⟨hn, ?_⟩
      rcases hb 0 hn with h | h
      · exact absurd h not_top_lt
      · exact h.1
    · exact h
  refine ⟨hp.1, fun k hk => ?_, fun k hk => ?_⟩
  · rcases hb k hk with h | h
    · exact hp.2 ▸ h.le
    · exact hp.2 ▸ h.1.le
  · rcases hb k (hk.trans hp.1) with h | h
    · exact hp.2 ▸ h
    · have := h.2
      simp only [Nat.cast_le] at this
      omega

end Cert.FirstMin
-- ==== Proof.Walked.lean ====
/-
  The kernel's running minimum, read entry by entry: at lane `s` and row `q` it is the running minimum of the distances of
  the codebook rows 8 g + s, g = 0 … 127, and the running group number is the position that minimum came from.
-/
module

public import proofs.«01_k».proof.Proof.Block
public import proofs.«01_k».proof.Proof.FirstMin

@[expose] public section

set_option maxRecDepth 16384

noncomputable section

namespace Cert.KernelIdeal.Walk

open Cert.KernelIdeal Cert.KernelIdeal.Gen Idealize.ShloMosaic Cert.FirstMin

theorem minimum_apply {s : Shape} (a b : FVec Ideal s .f32) (i : s.Idx) : minimumf a b i = min (a i : EReal) (b i) := rfl

open Classical in
theorem choose_apply {s : Shape} (a b : FVec Ideal s .f32) (x y : IVec s 32) (i : s.Idx) :
    select (cmpf .olt a b) x y i = if (a i : EReal) < b i then x i else y i := by
  show (if Ideal.cmp .olt (a i) (b i) = 1 then x i else y i) = _
  by_cases h : (a i : EReal) < b i <;> simp [Ideal.cmp, h]

/-- Consecutive groups of one chunk: if the run so far is the running minimum of `d` up to `p`, and the chunk's groups from
    number `s` on hold `d` from `p + 1` on, then after `n` groups the run is the running minimum of `d` up to `p + n`. -/
theorem walk_apply (a2 : FVec Ideal S1x4608 .f32) (ab : FVec Ideal S256x4608 .f32) (b2 : FVec Ideal S256x1 .f32) (base s : Nat)
    (v : FVec Ideal S8x4608 .f32) (x : IVec S8x4608 32) (d : Nat → EReal) (i : S8x4608.Idx) (p : Nat) (hp : p + 1 = base + s)
    (ht : ∀ r h, tileAt a2 ab b2 r h i = d (base + r)) (hv : v i = runV d p) (hx : x i = BitVec.ofNat 32 (runX d p)) :
    ∀ n h, walkV a2 ab b2 s v n h i = runV d (p + n) ∧ walkX a2 ab b2 base s v x n h i = BitVec.ofNat 32 (runX d (p + n))
  | 0, _ => ⟨hv, hx⟩
  | n + 1, h => by
    obtain ⟨e, f⟩ := walk_apply a2 ab b2 base s v x d i p hp ht hv hx n (by omega)
    have k : base + (s + n) = p + n + 1 := by omega
    constructor
    · rw [walkV, minimum_apply, ht, e, k]
      rfl
    · rw [walkX, choose_apply, ht, e, k, f, ← Nat.add_assoc p n 1, runX]
      split <;> rfl

variable (x0 : Vec Ideal S8x576x64 .f32) (x1 : Vec Ideal S1024x64 .f32)

/-- The distances lane `s` of row `q` sees, group after group. -/
def lane (q : Fin 4608) (s : Fin 8) (g : Nat) : EReal := D x0 x1 q (8 * g + s.val)

theorem run0 (s : Fin 8) (q : Fin 4608) : v0 x0 x1 (ix2 s q) = runV (lane x0 x1 q s) 31
    ∧ g0 x0 x1 (ix2 s q) = BitVec.ofNat 32 (runX (lane x0 x1 q s) 31) :=
  walk_apply _ _ _ 0 1 _ _ (lane x0 x1 q s) (ix2 s q) 0 rfl (fun r h => tile0_apply x0 x1 r h s q)
    (tile0_apply x0 x1 0 (by decide) s q) rfl 31 (by decide)

theorem run1 (s : Fin 8) (q : Fin 4608) : v1 x0 x1 (ix2 s q) = runV (lane x0 x1 q s) 63
    ∧ g1 x0 x1 (ix2 s q) = BitVec.ofNat 32 (runX (lane x0 x1 q s) 63) :=
  walk_apply _ _ _ 32 0 _ _ (lane x0 x1 q s) (ix2 s q) 31 rfl (fun r h => tile1_apply x0 x1 r h s q)
    (run0 x0 x1 s q).1 (run0 x0 x1 s q).2 32 (by decide)

theorem run2 (s : Fin 8) (q : Fin 4608) : v2 x0 x1 (ix2 s q) = runV (lane x0 x1 q s) 95
    ∧ g2 x0 x1 (ix2 s q) = BitVec.ofNat 32 (runX (lane x0 x1 q s) 95) :=
  walk_apply _ _ _ 64 0 _ _ (lane x0 x1 q s) (ix2 s q) 63 rfl (fun r h => tile2_apply x0 x1 r h s q)
    (run1 x0 x1 s q).1 (run1 x0 x1 s q).2 32 (by decide)

/-- After all 128 groups. -/
theorem run3 (s : Fin 8) (q : Fin 4608) : v3 x0 x1 (ix2 s q) = runV (lane x0 x1 q s) 127
    ∧ g3 x0 x1 (ix2 s q) = BitVec.ofNat 32 (runX (lane x0 x1 q s) 127) :=
  walk_apply _ _ _ 96 0 _ _ (lane x0 x1 q s) (ix2 s q) 95 rfl (fun r h => tile3_apply x0 x1 r h s q)
    (run2 x0 x1 s q).1 (run2 x0 x1 s q).2 32 (by decide)

end Cert.KernelIdeal.Walk

end
-- ==== Proof.Combine.lean ====
/-
  The kernel's last step on a block: the eight lanes put together. For row `q` the word it computes is the number of the
  first codebook row at the least distance.
-/
module

public import proofs.«01_k».proof.Proof.Walked
public import Idealize.ShloMosaic.Lib.WordArith

@[expose] public section

set_option maxRecDepth 16384

noncomputable section

namespace Cert.KernelIdeal.Walk

open Cert.KernelIdeal Cert.KernelIdeal.Gen Idealize.ShloMosaic Cert.FirstMin

/-- The smaller of two words below 2^31 is the word of the smaller number. -/
theorem minsi_ofNat {a b : Nat} (ha : a < 2147483648) (hb : b < 2147483648) :
    IntOp.minsi (BitVec.ofNat 32 a) (BitVec.ofNat 32 b) = BitVec.ofNat 32 (min a b) := by
  have e : ∀ n, n < 2147483648 → (BitVec.ofNat 32 n).toNat = n := fun n h => by
    rw [BitVec.toNat_ofNat]; exact Nat.mod_eq_of_lt (by omega)
  apply BitVec.eq_of_toNat_eq
  refine (WordArith.toNat_minsi_of_lt _ _ ?_ ?_).trans ?_
  · rw [e a ha]; omega
  · rw [e b hb]; omega
  · rw [e a ha, e b hb, e _ (by omega)]

/-- A fold of words below 2^31 with the smaller-word operation is the word of their least, or of the initial value. -/
theorem fold_minsi {α : Type} (f : α → Nat) (hf : ∀ x, f x < 2147483648) (s : Finset α) :
    ∃ p, p < 2147483648 ∧ Finset.fold IntOp.minsi (2147483647#32) (fun x => BitVec.ofNat 32 (f x)) s = BitVec.ofNat 32 p
      ∧ (p = 2147483647 ∨ ∃ x ∈ s, p = f x) ∧ ∀ x ∈ s, p ≤ f x := by
  classical
  induction s using Finset.induction_on with
  | empty => exact ⟨2147483647, by decide, rfl, .inl rfl, fun x h => absurd h (Finset.notMem_empty x)⟩
  | insert a s ha ih =>
    obtain ⟨p, hp, e, hw, hl⟩ := ih
    refine ⟨min (f a) p, by omega, ?_, ?_, fun x hx => ?_⟩
    · rw [Finset.fold_insert ha, e, minsi_ofNat (hf a) hp]
    · rcases Nat.le_total (f a) p with h | h
      · exact .inr ⟨a, Finset.mem_insert_self a s, Nat.min_eq_left h⟩
      · rw [Nat.min_eq_right h]
        exact hw.imp id fun ⟨x, hx, e⟩ => ⟨x, Finset.mem_insert_of_mem hx, e⟩
    · rcases Finset.mem_insert.1 hx with rfl | hx
      · exact Nat.min_le_left _ _
      · exact (Nat.min_le_right _ _).trans (hl x hx)

/-- The start of a minimum. -/
theorem top_bits : Ideal.ofBits .f32 2139095040#32 = (⊤ : EReal) := by
  simp [Ideal.ofBits, Ideal.ieee]

open Classical in
/-- The last step, entry by entry, over any running minimum `v` and group numbers `g`. -/
theorem last_apply (g : IVec S8x4608 32) (b : IVec S8x4608 1) (v : FVec Ideal S8x4608 .f32) (q : Fin 4608) :
    k0_pay321 g b v 127#32 (ix1 q)
      = Finset.fold IntOp.minsi 2147483647#32 (fun s : Fin 8 =>
          if (v (ix2 s q) : EReal) = Finset.fold min (⊤ : EReal) (fun s : Fin 8 => (v (ix2 s q) : EReal)) Finset.univ then
            IntOp.addi (IntOp.muli (select b (broadcast S8x4608 127#32) g (ix2 s q)) 8#32) (BitVec.ofNat 32 s.val)
          else 1024#32) Finset.univ := by
  pointwise [k0_pay321, top_bits]

/-- If `v` and the chosen group numbers are the eight lanes' running minima of `d` and their positions, the word of row `q` is
    the first position at the least of `d`. -/
theorem last_first (g : IVec S8x4608 32) (b : IVec S8x4608 1) (v : FVec Ideal S8x4608 .f32) (q : Fin 4608) (d : Nat → EReal)
    (hv : ∀ s : Fin 8, (v (ix2 s q) : EReal) = runV (fun g => d (8 * g + s.val)) 127)
    (hx : ∀ s : Fin 8, select b (broadcast S8x4608 127#32) g (ix2 s q) = BitVec.ofNat 32 (runX (fun g => d (8 * g + s.val)) 127)) :
    ∃ p, k0_pay321 g b v 127#32 (ix1 q) = BitVec.ofNat 32 p ∧ IsFirstMin 1024 d p := by
  classical
  obtain ⟨V, hV⟩ : ∃ V : EReal, V = Finset.fold min (⊤ : EReal) (fun s : Fin 8 => runV (fun g => d (8 * g + s.val)) 127) Finset.univ :=
    ⟨_, rfl⟩
  have hinf : V = Finset.univ.inf fun s : Fin 8 => runV (fun g => d (8 * g + s.val)) 127 := hV
  have hoff : ∀ s : Fin 8, (if (v (ix2 s q) : EReal) = V then
        IntOp.addi (IntOp.muli (select b (broadcast S8x4608 127#32) g (ix2 s q)) 8#32) (BitVec.ofNat 32 s.val)
      else 1024#32) = BitVec.ofNat 32 (offer d 127 (8 * (127 + 1)) V s.val) := fun s => by
    rw [hv s, hx s, offer]
    split
    · simp only [IntOp.addi, IntOp.muli, ← BitVec.ofNat_mul, ← BitVec.ofNat_add]
    · rfl
  have hlt : ∀ s : Fin 8, offer d 127 (8 * (127 + 1)) V s.val < 2147483648 := fun s => by
    have := (run_spec (fun g => d (8 * g + s.val)) 127).2.lt
    rw [offer]
    split <;> omega
  obtain ⟨p, -, e, hw, hl⟩ := fold_minsi (fun s : Fin 8 => offer d 127 (8 * (127 + 1)) V s.val) hlt Finset.univ
  refine ⟨p, ?_, offers_spec d 127 V p (fun s hs => ?_) ?_ (fun s hs => hl ⟨s, hs⟩ (Finset.mem_univ _)) ?_⟩
  · rw [last_apply, ← e]
    refine Finset.fold_congr fun s _ => ?_
    simp only [hv]
    rw [← hV, ← hv s]
    exact hoff s
  · rw [hinf]
    exact Finset.inf_le (Finset.mem_univ (⟨s, hs⟩ : Fin 8))
  · obtain ⟨s, -, es⟩ := Finset.exists_mem_eq_inf Finset.univ ⟨0, Finset.mem_univ 0⟩
      (fun s : Fin 8 => runV (fun g => d (8 * g + s.val)) 127)
    exact ⟨s.val, s.isLt, (hinf.trans es).symm⟩
  · rcases hw with h | ⟨s, -, h⟩
    · have h0 := hl 0 (Finset.mem_univ _)
      have := hlt 0
      have : offer d 127 (8 * (127 + 1)) V ((0 : Fin 8) : Nat) ≤ 1024 := by
        have := (run_spec (fun g => d (8 * g + ((0 : Fin 8) : Nat))) 127).2.lt
        rw [offer]
        split
        · simp only [Fin.val_zero] at *; omega
        · decide
      omega
    · exact ⟨s.val, s.isLt, h⟩

variable (x0 : Vec Ideal S8x576x64 .f32) (x1 : Vec Ideal S1024x64 .f32)

/-- The words the kernel computes for the 4608 rows of a block. -/
def best : IVec S4608 32 := k0_pay321 (k0_pay383 x0 x1) (k0_pay384 x0 x1) (k0_pay385 x0 x1) 127#32

/-- Row `q`'s word is the number of the first codebook row at the least distance. -/
theorem best_apply (q : Fin 4608) : ∃ p, best x0 x1 (ix1 q) = BitVec.ofNat 32 p ∧ IsFirstMin 1024 (D x0 x1 q) p :=
  last_first _ _ _ q _ (fun s => by rw [payV]; exact (run3 x0 x1 s q).1) (fun s => by rw [payX]; exact (run3 x0 x1 s q).2)

end Cert.KernelIdeal.Walk

end
-- ==== Proof.Out.lean ====
/-
  What the kernel leaves in its output block: eight stores, one per row of 576, of consecutive pieces of the block's 4608
  words.
-/
module

public import proofs.«01_k».proof.Proof.Combine
public import Idealize.ShloMosaic.Lib.Pipeline.Value
public import Idealize.ShloMosaic.Lib.Pipeline.ValueKit

@[expose] public section

set_option maxRecDepth 16384

noncomputable section

namespace Cert.KernelIdeal.Walk

open Cert.KernelIdeal Cert.KernelIdeal.Gen Idealize.ShloMosaic Cert.FirstMin

/-- A piece of 576 words, laid out as a row. -/
theorem piece_apply (v : IVec S4608 32) (o : Nat) (h : S4608.Slices ![o] S576) (ho : o + 576 ≤ 4608) (j : Fin 576) :
    shapeCast S1x576 (extractStridedSlice S576 ![o] v h) shapeCasts_S576_S1x576 (ix2 0 j) = v (ix1 ⟨o + j.val, by omega⟩) := by
  pointwise []

/-- The block's words laid out as 8 rows of 576. -/
def rows (v : IVec S4608 32) : IVec S8x576 32 := fun y => v (ix1 ⟨576 * (y 0).val + (y 1).val, by
  have h0 : (y 0).val < 8 := (y 0).isLt
  have h1 : (y 1).val < 576 := (y 1).isLt
  omega⟩)

/-- Row `r` of that layout is the piece at 576 r. -/
theorem rows_piece (v : IVec S4608 32) (r o : Nat) (hr : r < 8) (ho : o = 576 * r) (h : S4608.Slices ![o] S576)
    (inb : ∀ a, (![r, 0] : Fin 2 → Nat) a + S1x576.size a ≤ S8x576.size a)
    (x : (Rect.unit (s := S8x576) ![r, 0] S1x576.size inb).shape.Idx) :
    shapeCast S1x576 (extractStridedSlice S576 ![o] v h) shapeCasts_S576_S1x576 x
      = rows v ((Rect.unit (s := S8x576) ![r, 0] S1x576.size inb).emb x) := by
  have hx : x = ix2 0 (x 1 : Fin 576) := by
    funext a
    match a with
    | ⟨0, _⟩ => exact Subsingleton.elim (α := Fin 1) _ _
    | ⟨1, _⟩ => rfl
  have e0 := ValueKit.rect_emb_unit_val (s := S8x576) ![r, 0] S1x576.size inb x 0
  have e1 := ValueKit.rect_emb_unit_val (s := S8x576) ![r, 0] S1x576.size inb x 1
  have z : (x 0).val = 0 := Nat.lt_one_iff.1 (x 0).isLt
  refine (congrArg _ hx).trans ((piece_apply v o h (by omega) _).trans (congrArg v (congrArg ix1 (Fin.ext ?_))))
  show o + (x 1).val = 576 * _ + _
  rw [e0, e1, ho, z]
  show _ = 576 * (r + 0) + (0 + _)
  omega

variable (x0 : Vec Ideal S8x576x64 .f32) (x1 : Vec Ideal S1024x64 .f32)

/-- The output block is the block's words in rows. -/
theorem out_rows (y : S8x576.Idx) : out0_2 x0 x1 y = rows (best x0 x1) y := by
  refine View.canon_apply_of_pieces (rows (best x0 x1)) _ ?_ y (cover0_2 (F := Ideal) _ _ _ _ _ _ _ _ y)
  simp only [List.forall_mem_cons]
  refine ⟨fun x => ?_, fun x => ?_, fun x => ?_, fun x => ?_, fun x => ?_, fun x => ?_, fun x => ?_, fun x => ?_,
    fun p hp => absurd hp List.not_mem_nil⟩
  · exact rows_piece (best x0 x1) 7 4032 (by decide) rfl slices_S4608_o4032_S576 _ x
  · exact rows_piece (best x0 x1) 6 3456 (by decide) rfl slices_S4608_o3456_S576 _ x
  · exact rows_piece (best x0 x1) 5 2880 (by decide) rfl slices_S4608_o2880_S576 _ x
  · exact rows_piece (best x0 x1) 4 2304 (by decide) rfl slices_S4608_o2304_S576 _ x
  · exact rows_piece (best x0 x1) 3 1728 (by decide) rfl slices_S4608_o1728_S576 _ x
  · exact rows_piece (best x0 x1) 2 1152 (by decide) rfl slices_S4608_o1152_S576 _ x
  · exact rows_piece (best x0 x1) 1 576 (by decide) rfl slices_S4608_o576_S576 _ x
  · exact rows_piece (best x0 x1) 0 0 (by decide) rfl slices_S4608_o0_S576 _ x

end Cert.KernelIdeal.Walk

end
-- ==== Proof.KernelValue.lean ====
/-
  The kernel's result array after the run: at every row the number of the first codebook row at the least distance, in the
  kernel's form of the distance.
-/
module

public import proofs.«01_k».proof.Proof.Out
public import proofs.«01_k».proof.Proof.Gen.KernelIdeal.Value

@[expose] public section

set_option maxRecDepth 16384

noncomputable section

namespace Cert.KernelIdeal.Whole

open Cert.KernelIdeal Cert.KernelIdeal.Gen Cert.KernelIdeal.Walk Idealize.ShloMosaic Idealize.ShloMosaic.TcCoe Idealize.SL.Sem
open Cert.FirstMin Cert.Dist

variable (m : (ℓ : Loc nD τ sig) → Buf (Elt Ideal) ℓ)

/-- The rows' array and the codebook, as launched. -/
def argR (c : Dev nD) : Vec Ideal S32x576x64 .f32 := m ((c.tc : Thread nD τ).loc main_arg0)
def argC (c : Dev nD) : Vec Ideal S1024x64 .f32 := m ((c.tc : Thread nD τ).loc main_arg1)

/-- The distances of row `i` of the array to the codebook rows. -/
def far (r : Vec Ideal S32x576x64 .f32) (w : Vec Ideal S1024x64 .f32) (i : S32x576.Idx) (k : Nat) : EReal :=
  dist' (fun x : Fin 64 => r (ix3 (i 0 : Fin 32) (i 1 : Fin 576) x)) (code w k)

/-- Where the windows' blocks lie. -/
theorem idx0 : ∀ t : Fin cfg0.N, win0_0.index t = ![t.val, 0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

/-- Grid point `t`'s codebook block is the codebook. -/
theorem code_block (c : Dev nD) (t : Fin cfg0.N) (k : Nat) : code (iblk m c 1 t) k = code (argC m c) k := by
  funext x
  show iblk m c 1 t (ix2 ⟨k % 1024, _⟩ x) = argC m c (ix2 ⟨k % 1024, _⟩ x)
  blk_simp [iblk]
  refine congrArg (argC m c) ?_
  blk_ext [idx1]

/-- Grid point `t`'s block of rows is the 8 × 576 rows its output block covers. -/
theorem row_block (c : Dev nD) (t : Fin cfg0.N) (y : S8x576.Idx) (q : Fin 4608) (hq : q.val = 576 * (y 0).val + (y 1).val) :
    row (iblk m c 0 t) q = fun x : Fin 64 => argR m c
      (ix3 (((win0_2.blk t).view.emb y : S32x576.Idx) 0 : Fin 32) (((win0_2.blk t).view.emb y : S32x576.Idx) 1 : Fin 576) x) := by
  have h1 : (y 1).val < 576 := (y 1).isLt
  have hd : q.val / 576 = (y 0).val := by omega
  have hm : q.val % 576 = (y 1).val := by omega
  funext x
  show iblk m c 0 t (ix3 ⟨q.val / 576, _⟩ ⟨q.val % 576, _⟩ x) = _
  blk_simp [iblk]
  refine congrArg (argR m c) ?_
  blk_ext [idx0, idx2, hd, hm]

/-- What the result array holds at `i`. -/
theorem final_spec (c : Dev nD) (i : S32x576.Idx) :
    ∃ p, (dats m 0 c).arrAt 2 cfg0.N i = BitVec.ofNat 32 p ∧ IsFirstMin 1024 (far (argR m c) (argC m c) i) p := by
  refine (dats m 0 c).arrAt_forall_of_covers 2
    (fun i v => ∃ p, v = BitVec.ofNat 32 p ∧ IsFirstMin 1024 (far (argR m c) (argC m c) i) p) (by decide +kernel)
    (fun t hf y => ?_) i
  blk_simp
  rw [after0_2]
  have h0 : (y 0).val < 8 := (y 0).isLt
  have h1 : (y 1).val < 576 := (y 1).isLt
  obtain ⟨p, e, h⟩ := best_apply (iblk m c 0 t) (iblk m c 1 t) ⟨576 * (y 0).val + (y 1).val, by omega⟩
  refine ⟨p, (out_rows _ _ y).trans e, ?_⟩
  refine h.congr fun k _ => ?_
  rw [D, far, row_block m c t y _ rfl, code_block]

end Cert.KernelIdeal.Whole

end
-- ==== Proof.ArgMin.lean ====
/-
  The reduction of (distance, index) pairs the reference takes its index by: the pair it leaves is that of the first least distance.
-/
module

public import proofs.«01_k».proof.Proof.Gen.ReferenceIdeal
public import proofs.«01_k».proof.Proof.FirstMin
public import Idealize.ShloMosaic.Lib.Pointwise
public import Idealize.ShloMosaic.Lib.IdealHost

@[expose] public section

set_option maxRecDepth 16384

noncomputable section

namespace Cert.ReferenceIdeal.ArgMin

open Cert.ReferenceIdeal Cert.ReferenceIdeal.Gen Idealize.ShloMosaic
open Cert.FirstMin

/-- The pair a step works on, with its index a number. -/
def num (a : Ideal .f32 × BitVec 32) : EReal × Int := (a.1, a.2.toInt)

/-- The two choices of a step, over the truth of its three comparisons. -/
theorem pick {α : Type} (l e s : Bool) (v w : α) (i j : BitVec 32) :
    (Scalar.select (IntOp.ori (BitVec.ofBool l) 0#1) v w,
      Scalar.select (IntOp.ori (IntOp.ori (BitVec.ofBool l) 0#1) (IntOp.andi (BitVec.ofBool e) (BitVec.ofBool s))) i j)
      = (if l then v else w, if l || (e && s) then i else j) := by
  cases l <;> cases e <;> cases s <;> rfl

/-- A step of the reduction returns one of its two pairs, and one that comes before both. -/
theorem step (a b : Ideal .f32 × BitVec 32) :
    (reducer_argmin_f32_i32 a b = a ∨ reducer_argmin_f32_i32 a b = b)
      ∧ Before (num (reducer_argmin_f32_i32 a b)) (num a) ∧ Before (num (reducer_argmin_f32_i32 a b)) (num b) := by
  obtain ⟨v, i⟩ := a
  obtain ⟨w, j⟩ := b
  have hr : reducer_argmin_f32_i32 (F := Ideal) (v, i) (w, j)
      = if (v : EReal) < w ∨ ((v : EReal) = w ∧ i.toInt < j.toInt) then (v, i) else (w, j) := by
    show (Scalar.select (IntOp.ori (Ideal.cmp .olt v w) (Ideal.cmp .une v v)) v w,
      Scalar.select (IntOp.ori (IntOp.ori (Ideal.cmp .olt v w) (Ideal.cmp .une v v))
        (IntOp.andi (Ideal.cmp .oeq v w) (IntOp.cmpi .slt i j))) i j) = _
    have hs : IntOp.cmpi .slt i j = BitVec.ofBool (decide (i.toInt < j.toInt)) := by
      simp only [IntOp.cmpi, ← BitVec.slt_iff_toInt_lt, Bool.decide_eq_true]
    have hc : Ideal.cmp .olt v w = BitVec.ofBool (decide ((v : EReal) < w)) := rfl
    have hn : Ideal.cmp .une v v = 0#1 := by simp [Ideal.cmp]
    have he : Ideal.cmp .oeq v w = BitVec.ofBool (decide ((v : EReal) = w)) := rfl
    rw [hs, hc, hn, he, pick]
    by_cases h1 : (v : EReal) < w
    · simp [h1]
    · by_cases h2 : (v : EReal) = w
      · by_cases h3 : i.toInt < j.toInt <;> simp [h2, h3]
      · simp [h1, h2]
  rw [hr]
  by_cases h : (v : EReal) < w ∨ ((v : EReal) = w ∧ i.toInt < j.toInt)
  · rw [if_pos h]
    exact ⟨.inl rfl, Before.refl _, h.imp id fun h => ⟨h.1, h.2.le⟩⟩
  · rw [if_neg h]
    refine ⟨.inr rfl, ?_, Before.refl _⟩
    rw [not_or, not_lt, not_and, not_lt] at h
    rcases lt_or_eq_of_le h.1 with h' | h'
    · exact .inl h'
    · exact .inr ⟨h', h.2 h'.symm⟩

/-- The pairs a reduction along the second axis runs over at `j`, whatever the two extents. -/
theorem mem_fiber {n0 n1 : Nat} {t : Shape} {α β : Type} (h : (⟨2, ![n0, n1]⟩ : Shape).ReducesTo [1] t)
    (x : (⟨2, ![n0, n1]⟩ : Shape).Idx → α) (y : (⟨2, ![n0, n1]⟩ : Shape).Idx → β) (j : t.Idx) (q : Fin n0)
    (hq : (j ⟨0, h.lt_r2_a1_0⟩).val = q.val) (b : α × β) :
    b ∈ Host.argReduceFiber x y h j ↔ ∃ k : Fin n1, b = (x (ix2 q k), y (ix2 q k)) := by
  have hj : ∀ i, h.drop i = j ↔ ∃ k : Fin n1, ix2 q k = i := fun i => by
    rw [Shape.ReducesTo.fiber_r2_a1 h j i]
    exact ⟨fun ⟨k, e⟩ => ⟨k, e ▸ congrArg (ix2 · k) (Fin.ext hq.symm)⟩, fun ⟨k, e⟩ => ⟨k, e ▸ congrArg (ix2 · k) (Fin.ext hq)⟩⟩
  simp only [Host.argReduceFiber, List.mem_map, List.mem_filter, List.mem_finRange, true_and, decide_eq_true_eq]
  constructor
  · rintro ⟨n, e, rfl⟩
    obtain ⟨k, hk⟩ := (hj _).1 e
    exact ⟨k, by rw [← hk]⟩
  · rintro ⟨k, rfl⟩
    exact ⟨(⟨2, ![n0, n1]⟩ : Shape).rowMajor (ix2 q k), by rw [Equiv.symm_apply_apply]; exact (hj _).2 ⟨k, rfl⟩,
      by rw [Equiv.symm_apply_apply]⟩

/-- The least position of a row, over any list of the row's pairs. -/
theorem fold_first {n : Nat} (n0 : 0 < n) (n1 : n ≤ 1024) (l : List (Ideal .f32 × BitVec 32)) (d : Fin n → EReal) (e : Nat → EReal) (he : ∀ k : Fin n, d k = e k.val)
    (hmem : ∀ b, b ∈ l ↔ ∃ k : Fin n, b = (d k, BitVec.ofNat 32 k.val)) :
    ∃ p, (l.foldl reducer_argmin_f32_i32 ((⊤ : EReal), 0#32)).2 = BitVec.ofNat 32 p ∧ IsFirstMin n e p := by
  obtain ⟨R, hR⟩ : ∃ R, R = l.foldl reducer_argmin_f32_i32 ((⊤ : EReal), 0#32) := ⟨_, rfl⟩
  have hi : ∀ k, k < n → (BitVec.ofNat 32 k).toInt = (k : Int) := fun k hk => by
    rw [BitVec.toInt_eq_toNat_cond, BitVec.toNat_ofNat, Nat.mod_eq_of_lt (by omega), if_pos (by omega)]
  obtain ⟨h1, -, h3⟩ := foldl_before num reducer_argmin_f32_i32 step l ((⊤ : EReal), 0#32)
  rw [← hR] at h1 h3 ⊢
  have hp : ∃ p : Nat, R.2 = BitVec.ofNat 32 p ∧ R.2.toInt = (p : Int) ∧ ((R.1 = (⊤ : EReal) ∧ p = 0) ∨ (p < n ∧ R.1 = e p)) := by
    rcases h1 with h | h
    · exact ⟨0, by rw [h], by rw [h]; rfl, .inl ⟨by rw [h], rfl⟩⟩
    · obtain ⟨k, rfl⟩ := (hmem R).1 h
      exact ⟨k.val, rfl, hi _ k.isLt, .inr ⟨k.isLt, he k⟩⟩
  obtain ⟨p, e1, e2, e3⟩ := hp
  refine ⟨p, e1, before_spec n n0 e R.1 p e3 fun k hk => ?_⟩
  have := h3 _ ((hmem _).2 ⟨⟨k, hk⟩, rfl⟩)
  simpa only [num, e2, he, hi k hk] using this

/-- A reduction from `(⊤, 0)` along the second axis, of distances paired with their positions: it leaves the first least
    position of the row. -/
theorem argReduce_first {n0 n : Nat} {t u : Shape} (hn : 0 < n) (hn' : n ≤ 1024) (h : (⟨2, ![n0, n]⟩ : Shape).ReducesTo [1] t)
    (hu : 0 < u.numel) (x : FVec Ideal ⟨2, ![n0, n]⟩ .f32) (y : IVec ⟨2, ![n0, n]⟩ 32) (ix : FVec Ideal u .f32) (iy : IVec u 32)
    (hx : ix (Shape.Idx.first hu) = (⊤ : EReal)) (hy : iy (Shape.Idx.first hu) = 0#32)
    (j : t.Idx) (q : Fin n0) (hq : (j ⟨0, h.lt_r2_a1_0⟩).val = q.val) (hk : ∀ k : Fin n, y (ix2 q k) = BitVec.ofNat 32 k.val)
    (e : Nat → EReal) (he : ∀ k : Fin n, (x (ix2 q k) : EReal) = e k.val)
    (R : t.Idx → Ideal .f32 × BitVec 32) (hR : R = Host.argReduce reducer_argmin_f32_i32 x y ix iy h hu) :
    ∃ p, (R j).2 = BitVec.ofNat 32 p ∧ IsFirstMin n e p := by
  rw [hR, Ideal.argReduce_eq_reduce2, Host.reduce2_eq_foldl_fiber, hx, hy]
  refine fold_first hn hn' _ (fun k => x (ix2 q k)) e he fun b => ?_
  simp only [mem_fiber h x y j q hq b, hk]

end Cert.ReferenceIdeal.ArgMin
end
-- ==== Proof.RefValue.lean ====
/-
  What the reference computes, read entry by entry: at every row the number of the first codebook row at the least distance.
-/
module

public import proofs.«01_k».proof.Proof.RefRun
public import proofs.«01_k».proof.Proof.ArgMin
public import proofs.«01_k».proof.Proof.Dist
public import Idealize.ShloMosaic.Lib.Pointwise
public import Idealize.ShloMosaic.Lib.IdealHost

@[expose] public section

set_option maxRecDepth 16384

noncomputable section

namespace Cert.ReferenceIdeal.RefValue

open Cert.ReferenceIdeal Cert.ReferenceIdeal.Gen Cert.ReferenceIdeal.RefRun Cert.ReferenceIdeal.ArgMin Idealize.ShloMosaic
open Cert.FirstMin Cert.Dist

/-- The constant the products are multiplied by. -/
theorem two_bits : Ideal.ofBits .f32 0x40000000#32 = ((2 : ℝ) : EReal) := by
  simp [Ideal.ofBits, Ideal.ieee, -EReal.coe_mul]; norm_num

/-- The start of the reduction. -/
theorem top_bits : Ideal.ofBits .f32 0x7F800000#32 = (⊤ : EReal) := by
  simp [Ideal.ofBits, Ideal.ieee]

/-- One entry of the distances. -/
theorem dists_apply (x : FVec Ideal S32x576x64 .f32) (c : FVec Ideal S1024x64 .f32) (i : Fin 32) (j : Fin 576) (k : Fin 1024) :
    dists x c (ix2 ⟨i.val * 576 + j.val, by omega⟩ k) = dist (fun a : Fin 64 => (x (ix3 i j a) : EReal)) (fun a => c (ix2 k a)) := by
  have hd : (i.val * 576 + j.val) / 576 = i.val := by omega
  have hm : (i.val * 576 + j.val) % 576 = j.val := by omega
  simp only [Cert.Dist.dist]
  pointwise [dists, two_bits]

/-- The reduction's index at row `q`: the first least position. -/
theorem nearest_apply (d : FVec Ideal S18432x1024 .f32) (q : Fin 18432) (e : Nat → EReal)
    (he : ∀ k : Fin 1024, (d (ix2 q k) : EReal) = e k.val) :
    ∃ p, nearest d (ix1 q) = BitVec.ofNat 32 p ∧ IsFirstMin 1024 e p := by
  have hk : ∀ k : Fin 1024, iotaInDim S18432x1024 32 1 (ix2 q k) = BitVec.ofNat 32 k.val := fun _ => rfl
  have ht : (constant S_ .f32 0x7F800000#32 : FVec Ideal S_ .f32) (Shape.Idx.first h_S_) = (⊤ : EReal) := top_bits
  have hz : constantI S_ 32 0#32 (Shape.Idx.first h_S_) = 0#32 := rfl
  have hq : ((ix1 q : S18432.Idx) ⟨0, Shape.ReducesTo.lt_r2_a1_0 reducesTo_S18432x1024_S18432_d1⟩).val = q.val := rfl
  obtain ⟨R, hR⟩ : ∃ R, R = Host.argReduce reducer_argmin_f32_i32 d (iotaInDim S18432x1024 32 1)
    (constant S_ .f32 0x7F800000#32) (constantI S_ 32 0#32) reducesTo_S18432x1024_S18432_d1 h_S_ := ⟨_, rfl⟩
  have hn : nearest d = fun j => (R j).2 := by
    rw [hR]
    unfold nearest indexOf
    rfl
  rw [hn]
  exact argReduce_first (n0 := 18432) (n := 1024) (by decide) (by decide) reducesTo_S18432x1024_S18432_d1 h_S_ d
    (iotaInDim S18432x1024 32 1) _ _ ht hz (ix1 q) q hq hk e he R hR

/-- The words laid out as 32 rows of 576. -/
theorem layout_apply (v : IVec S18432 32) (i : Fin 32) (j : Fin 576) :
    shapeCast S32x576 v shapeCasts_S18432_S32x576 (ix2 i j) = v (ix1 ⟨i.val * 576 + j.val, by omega⟩) := by
  pointwise []

/-- The reference's result at row (i, j). -/
theorem out_spec (x : FVec Ideal S32x576x64 .f32) (c : FVec Ideal S1024x64 .f32) (i : Fin 32) (j : Fin 576) (e : Nat → EReal)
    (he : ∀ k : Fin 1024, dist (fun a : Fin 64 => (x (ix3 i j a) : EReal)) (fun a => c (ix2 k a)) = e k.val) :
    ∃ p, out x c (ix2 i j) = BitVec.ofNat 32 p ∧ IsFirstMin 1024 e p := by
  obtain ⟨p, h, h'⟩ := nearest_apply (dists x c) ⟨i.val * 576 + j.val, by omega⟩ e fun k => (dists_apply x c i j k).trans (he k)
  exact ⟨p, (layout_apply _ i j).trans h, h'⟩

end Cert.ReferenceIdeal.RefValue

end
-- ==== Proof.Finite.lean ====
/-
  What the precondition says: no entry of either argument is an infinity.
-/
module

public import proofs.«01_k».proof.Proof.Gen.Pre_all_finite
public import Idealize.ShloMosaic.Lib.ReduceAll
public import Idealize.ShloMosaic.PureOps.Ideal.Laws

@[expose] public section

noncomputable section

namespace Cert.Finite

open Cert.Pre_all_finite Idealize.ShloMosaic

/-- A value of absolute value below `⊤` is no infinity. -/
theorem finite_of_lt (a : EReal) (h : Ideal.cmp .olt (max a (-a)) (Ideal.ofBits .f32 0x7F800000#32) = 1#1) : a ≠ ⊥ ∧ a ≠ ⊤ := by
  have ht : Ideal.ofBits .f32 0x7F800000#32 = (⊤ : EReal) := by simp [Ideal.ofBits, Ideal.ieee]
  rw [ht] at h
  constructor <;> rintro rfl <;> simp [Ideal.cmp] at h

/-- An array all of whose entries pass the test holds no infinity, whatever its shape. -/
theorem all_finite {s t u : Shape} {axes : List (Fin s.rank)} [Subsingleton t.Idx] (x : FVec Ideal s .f32) (b : FVec Ideal s .f32)
    (hb : ∀ i, b i = Ideal.ofBits .f32 0x7F800000#32) (init : u.Idx → BitVec 1) (h : s.ReducesTo axes t) (hu : 0 < u.numel) (j : t.Idx)
    (e : Host.reduce IntOp.andi (cmpf .olt (Host.absf x) b) init h hu j = 1#1) (i : s.Idx) : (x i : EReal) ≠ ⊥ ∧ (x i : EReal) ≠ ⊤ := by
  refine finite_of_lt (x i) ?_
  rw [← hb i]
  exact Host.reduce_andi_all _ init h hu j e i

/-- There is one index into a shape without axes. -/
instance : Subsingleton S_.Idx := ⟨fun a b => funext fun k => k.elim0⟩

/-- The precondition, read back. -/
theorem entries (x : FVec Ideal S32x576x64 .f32) (c : FVec Ideal S1024x64 .f32) (j : S_.Idx)
    (h : letI := Cert.Pre_all_finite.Gen.facts; fn (F := Ideal) x c j = 1#1) :
    (∀ i, (x i : EReal) ≠ ⊥ ∧ (x i : EReal) ≠ ⊤) ∧ ∀ i, (c i : EReal) ≠ ⊥ ∧ (c i : EReal) ≠ ⊤ := by
  obtain ⟨h1, h2⟩ := IntOp.andi_eq_one.1 h
  exact ⟨all_finite x _ (fun _ => rfl) _ _ _ j h1, all_finite c _ (fun _ => rfl) _ _ _ j h2⟩

end Cert.Finite

end
-- ==== Proof.Same.lean ====
/-
  On finite arguments the kernel's result array is what the reference computes: both hold, at each row, the first position of
  the least distance, and the two forms of the distance agree on real numbers.
-/
module

public import proofs.«01_k».proof.Proof.KernelValue
public import proofs.«01_k».proof.Proof.RefValue
public import proofs.«01_k».proof.Proof.Finite

@[expose] public section

noncomputable section

namespace Cert.Same

open Idealize.ShloMosaic Cert.KernelIdeal Cert.KernelIdeal.Gen Cert.KernelIdeal.Walk Cert.KernelIdeal.Whole
open Cert.FirstMin Cert.Dist

/-- The kernel's form of the distance of row `(i, j)` to codebook row `k` is the reference's, on finite arguments. -/
theorem far_eq (r : Vec Ideal S32x576x64 .f32) (w : Vec Ideal S1024x64 .f32) (hr : ∀ i, (r i : EReal) ≠ ⊥ ∧ (r i : EReal) ≠ ⊤)
    (hw : ∀ i, (w i : EReal) ≠ ⊥ ∧ (w i : EReal) ≠ ⊤) (i : Fin 32) (j : Fin 576) (k : Fin 1024) :
    Cert.Dist.dist (fun a : Fin 64 => (r (ix3 i j a) : EReal)) (fun a => w (ix2 k a)) = far r w (ix2 i j) k.val := by
  rw [far, ← code_eq w k.isLt k.val rfl]
  exact (dist'_eq (fun a => hr (ix3 i j a)) fun a => hw (ix2 k a)).symm

/-- An index into the result is its two coordinates. -/
theorem ix2_eq (i : S32x576.Idx) : i = ix2 (i 0 : Fin 32) (i 1 : Fin 576) := by
  funext k
  fin_cases k <;> rfl

/-- The two results agree. -/
theorem result_eq (m : (ℓ : Loc nD τ sig) → Buf (Elt Ideal) ℓ) (c : Dev nD)
    (hr : ∀ i, (argR m c i : EReal) ≠ ⊥ ∧ (argR m c i : EReal) ≠ ⊤) (hw : ∀ i, (argC m c i : EReal) ≠ ⊥ ∧ (argC m c i : EReal) ≠ ⊤) :
    Cert.ReferenceIdeal.RefRun.out (F := Ideal) (argR m c) (argC m c) = (dats m 0 c).arrAt 2 cfg0.N := by
  funext i
  obtain ⟨p, e, h⟩ := final_spec m c i
  obtain ⟨q, e', h'⟩ := Cert.ReferenceIdeal.RefValue.out_spec (argR m c) (argC m c) (i 0 : Fin 32) (i 1 : Fin 576)
    (far (argR m c) (argC m c) i) fun k => (far_eq _ _ hr hw _ _ k).trans (congrArg (far _ _ · k.val) (ix2_eq i).symm)
  rw [h'.unique h] at e'
  exact (congrArg (Cert.ReferenceIdeal.RefRun.out (F := Ideal) (argR m c) (argC m c)) (ix2_eq i)).trans (e'.trans e.symm)

end Cert.Same

end
-- ==== Proof.lean ====
/-
  The claims about the nearest-codebook kernel: it runs and leaves its arguments unchanged, so does its exact reading, so does
  the reference, and on finite arguments the kernel's exact reading and the reference end with equal results.
-/
module

public import proofs.«01_k».proof.Proof.Gen.KernelIdeal.Value
public import proofs.«01_k».proof.Proof.RefRun
public import proofs.«01_k».proof.Proof.Same
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_all_finite
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The kernel runs, ends with its arguments unchanged and every semaphore at zero. -/
theorem frame_kernel : Cert.quiescent_Kernel := fun m ρ _ => Cert.Kernel.Gen.frame m ρ

/-- So does its exact reading, on any arguments. -/
theorem frame_ideal : Cert.quiescent_KernelIdeal := fun m ρ _ => Cert.KernelIdeal.Gen.frame m ρ

/-- And so does the reference, which declares no semaphore. -/
theorem frame_reference : Cert.quiescent_ReferenceIdeal := fun m ρ _ =>
  (θ_run Cert.ReferenceIdeal.defs _ _).mono (fun r h => ⟨fun c => ⟨(h c).2.1, (h c).2.2⟩, sem_eq_zero_of_no_sems (by decide) r.2⟩)
    (Cert.ReferenceIdeal.RefRun.run (F := Ideal) m ρ)

/-- On finite arguments the kernel's exact reading and the reference end with the same result. -/
theorem same_result : Cert.algebraic_KernelIdeal_ReferenceIdeal_pre_all_finite := by
  intro m ρ m' ρ' hpre hagree
  refine ⟨fun c => (Cert.KernelIdeal.Gen.dats m 0 c).arrAt 2 Cert.KernelIdeal.cfg0.N,
    Cert.KernelIdeal.Value.run_blocks m ρ, (θ_run Cert.ReferenceIdeal.defs _ _).mono (fun r h c => ⟨(h c).1.trans ?_, (h c).2⟩)
      (Cert.ReferenceIdeal.RefRun.run (F := Ideal) m' ρ')⟩
  obtain ⟨hr, hw⟩ := Cert.Finite.entries _ _ (Shape.Idx.first Cert.Pre_all_finite.Gen.h_S_) (congrFun (hpre c) _)
  rw [(hagree c).1, (hagree c).2]
  exact Cert.Same.result_eq m c hr hw

theorem claim : Cert.Claim :=
  ⟨Cert.Kernel.Gen.facts, Cert.KernelIdeal.Gen.facts, Cert.ReferenceIdeal.Gen.facts, Cert.Pre_all_finite.Gen.facts,
    frame_kernel, frame_ideal, fun m ρ _ => frame_ideal m ρ trivial, frame_reference, fun m ρ _ => frame_reference m ρ trivial,
    trivial, same_result⟩

end Cert.Proof

end
